-- ==== Defs.lean ====
def Pre_Kernel [hPre_modality_in_table : Cert.Pre_modality_in_table.Facts] (m : (ℓ : Loc Cert.Kernel.nD Cert.Kernel.τ Cert.Kernel.sig) → Buf (Elt Bits) ℓ) : Prop :=
  ∀ c : Dev Cert.Kernel.nD,
    (Cert.Pre_modality_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_modality_in_table : Cert.Pre_modality_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_modality_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_modality_in_table [hPre_modality_in_table : Cert.Pre_modality_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_modality_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_modality_in_table : Cert.Pre_modality_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_modality_in_table : Cert.Pre_modality_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_modality_in_table [hReferenceIdeal : Cert.ReferenceIdeal.Facts] [hPre_modality_in_table : Cert.Pre_modality_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_modality_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_modality_in_table : Cert.Pre_modality_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_modality_in_table : Cert.Pre_modality_in_table.Facts),
    quiescent_Kernel (hKernel := hKernel) (hPre_modality_in_table := hPre_modality_in_table)
    ∧ quiescent_KernelIdeal (hKernelIdeal := hKernelIdeal) (hPre_modality_in_table := hPre_modality_in_table)
    ∧ quiescent_ReferenceIdeal (hReferenceIdeal := hReferenceIdeal)
    ∧ quiescent_ReferenceIdeal_pre_modality_in_table (hReferenceIdeal := hReferenceIdeal) (hPre_modality_in_table := hPre_modality_in_table)
    ∧ preserves_Kernel_KernelIdeal
    ∧ algebraic_KernelIdeal_ReferenceIdeal (hKernelIdeal := hKernelIdeal) (hReferenceIdeal := hReferenceIdeal) (hPre_modality_in_table := hPre_modality_in_table)
-- ==== Pre_modality_in_table.lean ====
abbrev S4x8192x1024 : Shape := ⟨3, ![4, 8192, 1024]⟩
abbrev S4x1024 : Shape := ⟨2, ![4, 1024]⟩
abbrev S1024 : Shape := ⟨1, ![1024]⟩
abbrev S_ : Shape := ⟨0, ![]⟩

class Facts : Prop where

variable [Facts]

def fn {F : FTy → Type} [FloatOps F] (main_arg0 : FVec F S4x8192x1024 .f32) (main_arg1 : FVec F S4x1024 .f32) (main_arg2 : FVec F S1024 .f32) (main_arg3 : FVec F S1024 .f32) (main_arg4 : IVec S_ 32) : IVec S_ 1 :=
  let main_c : IVec S_ 32 := constantI S_ 32 0#32
  let main_v0 : IVec S_ 1 := cmpi .sge main_arg4 main_c
  let main_c_0 : IVec S_ 32 := constantI S_ 32 4#32
  let main_v1 : IVec S_ 1 := cmpi .slt main_arg4 main_c_0
  let main_v2 : IVec S_ 1 := andi main_v0 main_v1
  main_v2
-- ==== Kernel.lean ====
abbrev S4x8192x1024 : Shape := ⟨3, ![4, 8192, 1024]⟩
abbrev S4x1024 : Shape := ⟨2, ![4, 1024]⟩
abbrev S1024 : Shape := ⟨1, ![1024]⟩
abbrev S_ : Shape := ⟨0, ![]⟩
abbrev S32768x1024 : Shape := ⟨2, ![32768, 1024]⟩
abbrev S1 : Shape := ⟨1, ![1]⟩
abbrev S1x1024 : Shape := ⟨2, ![1, 1024]⟩
abbrev S3280x1024 : Shape := ⟨2, ![3280, 1024]⟩
abbrev S3280 : Shape := ⟨1, ![3280]⟩
abbrev S3280x1 : Shape := ⟨2, ![3280, 1]⟩

abbrev nBuf : Space → Nat
  | .hbm => 10
  | .vmem => 7
  | .smem => 1
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S1024, .f32⟩
  | .hbm, ⟨3, _⟩ => ⟨S1024, .f32⟩
  | .hbm, ⟨4, _⟩ => ⟨S_, .i32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S4x8192x1024, .f32⟩
  | .local _ .vmem, ⟨0, _⟩ => ⟨S3280x1024, .f32⟩
  | .local _ .vmem, ⟨1, _⟩ => ⟨S3280x1024, .f32⟩
  | .local _ .vmem, ⟨2, _⟩ => ⟨S4x1024, .f32⟩
  | .local _ .vmem, ⟨3, _⟩ => ⟨S1x1024, .f32⟩
  | .local _ .vmem, ⟨4, _⟩ => ⟨S1x1024, .f32⟩
  | .local _ .vmem, ⟨5, _⟩ => ⟨S3280x1024, .f32⟩
  | .local _ .vmem, ⟨6, _⟩ => ⟨S3280x1024, .f32⟩
  | .local _ .smem, ⟨0, _⟩ => ⟨S1, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call0_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

abbrev pre0 : Pipeline.Prefetch sig := ⟨1, ![main_call0_v1.idx], fun | 0 => main_call0_v1.names | ⟨_ + 1, h⟩ => absurd h (Nat.not_lt.2 (Nat.le_add_left _ _)), fun | 0 => rfl | ⟨_ + 1, h⟩ => absurd h (Nat.not_lt.2 (Nat.le_add_left _ _))⟩

def k0_off1 (v18 : BitVec 32) : Fin 2 → Nat :=
  let v19 : Index := Scalar.indexCast v18
  let c0_6 : Index := 0#32
  ![v19.toNat, 0]

def k0_chk1 (v18 : BitVec 32) : Prop :=
  (∀ a, (k0_off1 v18) a + S1x1024.size a ≤ S4x1024.size a)
theorem k0_off1_inb : ∀ (v18 : BitVec 32) (k0_hw1 : k0_chk1 v18), ∀ a, (k0_off1 v18) a + S1x1024.size a ≤ S4x1024.size a := fun v18 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x1024 : Shape := ⟨3, ![4, 8192, 1024]⟩
abbrev S4x1024 : Shape := ⟨2, ![4, 1024]⟩
abbrev S1024 : Shape := ⟨1, ![1024]⟩
abbrev S_ : Shape := ⟨0, ![]⟩
abbrev S1 : Shape := ⟨1, ![1]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S1024, .f32⟩
  | .hbm, ⟨3, _⟩ => ⟨S1024, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1, .i1⟩
  | .hbm, ⟨16, _⟩ => ⟨S1, .i1⟩
  | .hbm, ⟨17, _⟩ => ⟨S_, .i1⟩
  | .hbm, ⟨18, _⟩ => ⟨S_, .i1⟩
  | .hbm, ⟨19, _⟩ => ⟨S1024, .f32⟩
  | .hbm, ⟨20, _⟩ => ⟨S1024, .i1⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .i32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | .hbm, ⟨68, _⟩ => ⟨S1x1x1024, .f32⟩
  | .hbm, ⟨69, _⟩ => ⟨S4x8192x1024, .f32⟩
  | .hbm, ⟨70, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_c_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c_1 : Ref sig .tc := ⟨.hbm, 11, rfl⟩
abbrev main_call0_c_2 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_c_3 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst : Ref sig .tc := ⟨.hbm, 21, rfl⟩
abbrev main_call0_v11 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_v4 : Ref sig .tc := ⟨.hbm, 29, rfl⟩
abbrev main_c : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_cst_2 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_cst_3 : Ref sig .tc := ⟨.hbm, 48, rfl⟩
abbrev main_call1_v13 : Ref sig .tc := ⟨.hbm, 49, rfl⟩
abbrev main_call1_cst_4 : Ref sig .tc := ⟨.hbm, 50, rfl⟩
abbrev main_call1_call0_v0 : Ref sig .tc := ⟨.hbm, 51, rfl⟩
abbrev main_call1_call0_v1 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_cst_1 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩

abbrev nD : Nat := 1
abbrev τ : Topo := Topo.v7x

variable {F : FTy → Type} [FloatOps F]
-- ==== Proof.KernelIdealBody.lean ====
module

public import proofs.«01_k».proof.Proof.Gen.KernelIdeal.Launch
public import proofs.«01_k».proof.Proof.Gen.KernelIdeal.Skeleton
public import Idealize.ShloMosaic.Lib.Pipeline.FrameSuffix
public import Idealize.ShloMosaic.Lib.Tactic
public import Idealize.ShloMosaic.Lib.StableHlo.Run

/-! What one visit of the kernel body does to its staging buffers. -/

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one position of the one-word table. -/
abbrev w0 : S1.Idx := fun _ => ⟨0, by decide +revert⟩

/-- The one-word table has only one position. -/
theorem one_word (a b : S1.Idx) : a = b :=
  funext fun k => match k with
    | ⟨0, _⟩ => Subsingleton.elim (α := Fin 1) _ _

/-- The row of the embedding table that the word `v` selects, as the body loads it. -/
def rowAt (v : BitVec 32) (h : k0_chk1 v) (X : S4x1024.Idx → Elt F .f32) : S1x1024.Idx → Elt F .f32 :=
  fun j => X ((Rect.unit (s := S4x1024) (k0_off1 v) S1x1024.size (k0_off1_inb v h)).emb j)

/-- One run of the body: with the five staging buffers and a share of the table word in hand, and the word a row
    of the table, the result's buffer ends at the normalised block and everything else is as before. -/
theorem sound_body (c : Dev nD) (E : Set ℕ) (i : grid0.Coords) (s0 : Fin 2) (s1 s2 s3 : Fin 1) (s4 : Fin 2)
    (X0 X4 : S3280x1024.Idx → Elt F .f32) (X1 : S4x1024.Idx → Elt F .f32) (X2 X3 : S1x1024.Idx → Elt F .f32)
    (T : Buf (Elt F) ((c : Thread nD τ).loc main_call0_v1)) (q : PosShare TreeShare) (h : k0_chk1 (T w0)) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ (((c : Thread nD τ).loc main_call0_v1) ↦{q} T))
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (k0_pay1 X0 (rowAt (T w0) h X1) X2 X3)
            ∗ (((c : Thread nD τ).loc main_call0_v1) ↦{q} T)) -∗ K ⟨⟩))
      ⊢ wp frame (wpE (defs₀ (F := F)) Variants.none c none) E
          (cc0__ln_add_kernel i (Memref.whole main_call0_v1) (Memref.isWhole_whole _) (stage0_0 s0) (hstage0_0 s0)
            (stage0_1 s1) (hstage0_1 s1) (stage0_2 s2) (hstage0_2 s2) (stage0_3 s3) (hstage0_3 s3)
            (stage0_4 s4) (hstage0_4 s4)) K := by
  have hz : (![0, 0] : Fin 2 → Nat) = fun _ => 0 := funext fun a => by fin_cases a <;> rfl
  have hword : ∀ x, (Memref.whole main_call0_v1 : Memref sig .tc _ _ _).view.readAt (Elt F)
      (Rect.unit (s := S1) ![0] S1.size inb_S1_S1_0).toLoadRect T x = T w0 := fun x =>
    congrArg T (one_word _ _)
  simp only [cc0__ln_add_kernel_eq_skeleton]; unfold cc0__ln_add_kernel_skel
  -- a whole load reads the contents, a whole store leaves what it wrote
  have rd0 : ∀ b : Fin 2, ∀ f, (stage0_0 b).view.readAt (Elt F) (Rect.unit (s := S3280x1024) ![0, 0] S3280x1024.size
      inb_S3280x1024_S3280x1024_0_0).toLoadRect f = (stage0_0 b).view.read (Elt F) f := fun b f => by
    fin_cases b
    · exact Memref.readAt_unit_zero (Elt F) cc0_stg0_0 hz _ f
    · exact Memref.readAt_unit_zero (Elt F) cc0_stg0_1 hz _ f
  have rd2 : ∀ f, (Memref.whole cc0_stg2_0 : Memref sig .tc _ _ _).view.readAt (Elt F) (Rect.unit (s := S1x1024) ![0, 0]
      S1x1024.size inb_S1x1024_S1x1024_0_0).toLoadRect f = f := Memref.readAt_unit_zero (Elt F) cc0_stg2_0 hz _
  have rd3 : ∀ f, (Memref.whole cc0_stg3_0 : Memref sig .tc _ _ _).view.readAt (Elt F) (Rect.unit (s := S1x1024) ![0, 0]
      S1x1024.size inb_S1x1024_S1x1024_0_0).toLoadRect f = f := Memref.readAt_unit_zero (Elt F) cc0_stg3_0 hz _
  have wr4 : ∀ b : Fin 2, ∀ f w, (stage0_4 b).view.read (Elt F) (((stage0_4 b).access (Rect.unit (s := S3280x1024) ![0, 0]
      S3280x1024.size inb_S3280x1024_S3280x1024_0_0)).write (Elt F) f w Finset.univ) = w := fun b f w => by
    fin_cases b
    · exact (View.read_whole (Val := Elt F) cc0_stg4_0 _).trans (Memref.write_access_unit_zero_univ (Elt F) cc0_stg4_0 hz _ f w)
    · exact (View.read_whole (Val := Elt F) cc0_stg4_1 _).trans (Memref.write_access_unit_zero_univ (Elt F) cc0_stg4_1 hz _ f w)
  have st0 : ∀ b : Fin 2, (stage0_0 b).view.set = Finset.univ := fun b => by
    fin_cases b <;> exact View.set_whole _
  have st4 : ∀ b : Fin 2, (stage0_4 b).view.set = Finset.univ := fun b => by
    fin_cases b <;> exact View.set_whole _
  fin_cases s1; fin_cases s2; fin_cases s3
  simp only [smemLoad, smemLoadElt, Prog.lift, Prog.bind_op, Prog.bind_ret]
  rw [show stage0_1 ((fun i => i) ⟨0, Nat.zero_lt_one⟩) = Memref.whole cc0_stg1_0 from rfl,
    show stage0_2 ((fun i => i) ⟨0, Nat.zero_lt_one⟩) = Memref.whole cc0_stg2_0 from rfl,
    show stage0_3 ((fun i => i) ⟨0, Nat.zero_lt_one⟩) = Memref.whole cc0_stg3_0 from rfl]
  simp only [owns_whole_eq, smemLoad, smemLoadElt, Prog.lift, Prog.bind_op, Prog.bind_ret]
  unfold owns
  rw [st0, st4]
  iintro ⟨⟨⟨%f0, %hf0, H0⟩, ⟨%f1, %hf1, H1⟩, ⟨%f2, %hf2, H2⟩, ⟨%f3, %hf3, H3⟩, ⟨%f4, %hf4, H4⟩, HT⟩, Hk⟩
  sl_steps
  generalize hv : (Memref.whole main_call0_v1 : Memref sig .tc _ _ _).view.readAt (Elt F)
    (Rect.unit (s := S1) ![0] S1.size inb_S1_S1_0).toLoadRect T (Shape.Idx.first _) = v
  obtain rfl : v = T w0 := hv.symm.trans (hword _)
  iapply (wp_assume _ _ _ _ h)
  sl_steps
  iapply Hk
  have hpay : ∀ g, k0_pay1 ((stage0_0 s0).view.readAt (Elt F) (Rect.unit (s := S3280x1024) ![0, 0] S3280x1024.size
        inb_S3280x1024_S3280x1024_0_0).toLoadRect f0) ((Memref.whole cc0_stg1_0 : Memref sig .tc _ _ _).view.readAt (Elt F)
        (Rect.unit (s := S4x1024) (k0_off1 (T w0)) S1x1024.size (k0_off1_inb (T w0) h)).toLoadRect f1) f2 f3 = g →
      k0_pay1 X0 (rowAt (T w0) h X1) X2 X3 = g := fun g hg => by
    rw [← hg, rd0, hf0, ← hf1, ← hf2, ← hf3]; rfl
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · rw [rd2, rd3]
    iexists _
    isplitr
    rotate_left
    · iexact H4
    · ipureintro
      exact (wr4 s4 _ _).trans (hpay _ rfl).symm
  · iexact HT

end Cert.KernelIdealRun

end
-- ==== Proof.KernelIdealLaunch.lean ====
module

public import proofs.«01_k».proof.Proof.KernelIdealBody

/-! The launch around the body: the memory the host lines before the kernel leave, the table word the launch reads,
what the five staging buffers hold at each grid point, and the two forms of the body's obligation. -/

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-- The buffers of device `c` once the four reshapes before the kernel have run. -/
abbrev V0 (c : Dev nD) : Valuation τ sig (Elt F) :=
  StableHlo.after (List.flatten [hostOps0]) (fun b => m (c, b))

/-- The words the launch prefetches: the one-word table as the host lines leave it. -/
abbrev tab : (p : Fin 1) → (pcfgs (F := F) p).Adm :=
  fun _ => ⟨fun k => V0 m 0 (Proc.devRef .tc (pre0.ref k)), trivial⟩

/-- The table word itself. -/
abbrev word : BitVec 32 := V0 m 0 (Proc.devRef .tc main_call0_v1) w0

/-- The part of the visited rows that lies inside the array at point `t`. -/
def xb (c : Dev nD) (t : Fin grid0.N) : ((win0 (tab m 0) 0).xblock (grid0.coords t)).Idx → Elt F .f32 :=
  ((win0 (tab m 0) 0).blk t).view.read (Elt F) (V0 m c (Proc.devRef .tc main_call0_v0))

/-- The visited rows with the rows past the array's end at zero. -/
def xfull (c : Dev nD) (t : Fin grid0.N) : S3280x1024.Idx → Elt F .f32 :=
  (win0 (tab m 0) 0).fill (grid0.coords t) (fun _ => Scalar.ofBits .f32 0#32) (xb m c t)

/-- The whole embedding table, the scale row and the shift row, as the kernel stages them. -/
abbrev tblk (c : Dev nD) : S4x1024.Idx → Elt F .f32 := V0 m c (Proc.devRef .tc main_arg1)
abbrev gblk (c : Dev nD) : S1x1024.Idx → Elt F .f32 := V0 m c (Proc.devRef .tc main_call0_v2)
abbrev bblk (c : Dev nD) : S1x1024.Idx → Elt F .f32 := V0 m c (Proc.devRef .tc main_call0_v3)

/-- What a visit leaves in the result's buffer when the rows' buffer holds `X`. -/
def pay (h : k0_chk1 (word m)) (c : Dev nD) (X : S3280x1024.Idx → Elt F .f32) : S3280x1024.Idx → Elt F .f32 :=
  k0_pay1 X (rowAt (word m) h (tblk m c)) (gblk m c) (bblk m c)

/-- The proof data of the launch: the arrays as the host lines leave them, the four inputs' buffers unchanged by a
    visit, the result's buffer at `out`. -/
def dats (out : Dev nD → Fin grid0.N → S3280x1024.Idx → Elt F .f32) (_ : Fin 1) (c : Dev nD) :
    Dat τ (Elt F) Unit ℕ (UR sig nD τ) ℕ (cfg0 (tab m 0)) c where
  A w := V0 m c (Proc.devRef .tc (Pipeline.arrRef spec0 w))
  after w t := match w with
    | ⟨0, _⟩ => xfull m c t
    | ⟨1, _⟩ => tblk m c
    | ⟨2, _⟩ => gblk m c
    | ⟨3, _⟩ => bblk m c
    | ⟨4, _⟩ => out c t
  Φ _ := iprop(Pipeline.ΦA spec0 c ∗ Pipeline.ΦT pre0 (tab m 0).1 c)
  q _ := fullShare
  owed _ := 0

variable (out : Dev nD → Fin grid0.N → S3280x1024.Idx → Elt F .f32)

/-! ## What the staging buffers hold when a visit starts -/

/-- Every visit fetches its rows. -/
theorem fetch_0 (t : Fin grid0.N) : ((cfg0 (tab m 0)).win (0 : Fin 5)).fetch t = true := by
  exact (by decide +kernel : ∀ t : Fin grid0.N, Window.fetchOf grid0 false cc0_transform_0 t = true) t

/-- The result is never fetched. -/
theorem fetch_4 (t : Fin grid0.N) : ((cfg0 (tab m 0)).win (4 : Fin 5)).fetch t = false := by
  rfl

/-- Every visit writes its rows of the result back. -/
theorem flush_4 (t : Fin grid0.N) : ((cfg0 (tab m 0)).win (4 : Fin 5)).flush t = true := by
  exact (by decide +kernel : ∀ t : Fin grid0.N, Window.flushOf grid0 true cc0_transform_4 t = true) t

/-- The rows' buffer has just been fetched. -/
theorem before_0 (c : Dev nD) (t : Fin grid0.N) (d) :
    (dats m out 0 c).before (0 : Fin 5) t d = (win0 (tab m 0) 0).fill (grid0.coords t) d (xb m c t) := by
  unfold Dat.before; rw [if_pos (fetch_0 m t)]; rfl

/-- The result's buffer holds what nothing names. -/
theorem before_4 (c : Dev nD) (t : Fin grid0.N) (d) : (dats m out 0 c).before (4 : Fin 5) t d = d := by
  unfold Dat.before
  rw [if_neg (by rw [fetch_4 m t]; exact Bool.false_ne_true)]
  by_cases h : t.val = 0
  · rw [if_pos h]
  · rw [if_neg h]; exact if_pos (flush_4 m _)

/-- An input whose every fetch brings the same contents `X`, and which a visit leaves at `X`, holds `X` at every visit. -/
theorem before_const (c : Dev nD) (w : Fin 5) (hw : ((cfg0 (tab m 0)).win w).isOut = false)
    (hclip : ∀ (i : grid0.Coords) a, ((cfg0 (tab m 0)).win w).clip i a = none)
    (X : ((cfg0 (tab m 0)).win w).block.Idx → Elt F ((cfg0 (tab m 0)).win w).elt)
    (hX : ∀ t, (dats m out 0 c).after w t = X) (hf : ∀ t d, (dats m out 0 c).fetched w t d = X)
    (t : Fin grid0.N) (d) : (dats m out 0 c).before w t d = X := by
  by_cases h : ((cfg0 (tab m 0)).win w).fetch t = true
  · rw [(dats m out 0 c).before_fetched w t h, hf]
  · rw [(dats m out 0 c).before_unfetched_in w hw t (Bool.eq_false_iff.mpr h) (fun _ => rfl)]
    unfold Dat.kept
    rw [hX]
    exact (Pipeline.fill_of_clip_none (cfg := cfg0 (tab m 0)) w _ (hclip _) d X _).trans (Window.fill_cut _ _ _)

/-- The table's buffer holds the whole table at every visit. -/
theorem before_1 (c : Dev nD) (t : Fin grid0.N) (d) : (dats m out 0 c).before (1 : Fin 5) t d = tblk m c := by
  refine before_const m out c 1 rfl (fun _ _ => rfl) (tblk m c) (fun _ => rfl) (fun t d => ?_) t d
  funext j
  unfold Dat.fetched Window.fill
  refine (dif_pos ((Window.moved_iff _ _ _).mpr fun a => (j a).isLt)).trans ?_
  exact congrArg (tblk m c) (funext fun a => Fin.ext (by
    fin_cases a <;> exact (Nat.zero_add _).trans (Nat.one_mul _)))

/-- The scale row's buffer holds the scale row at every visit. -/
theorem before_2 (c : Dev nD) (t : Fin grid0.N) (d) : (dats m out 0 c).before (2 : Fin 5) t d = gblk m c := by
  refine before_const m out c 2 rfl (fun _ _ => rfl) (gblk m c) (fun _ => rfl) (fun t d => ?_) t d
  funext j
  unfold Dat.fetched Window.fill
  refine (dif_pos ((Window.moved_iff _ _ _).mpr fun a => (j a).isLt)).trans ?_
  exact congrArg (gblk m c) (funext fun a => Fin.ext (by
    fin_cases a <;> exact (Nat.zero_add _).trans (Nat.one_mul _)))

/-- The shift row's buffer holds the shift row at every visit. -/
theorem before_3 (c : Dev nD) (t : Fin grid0.N) (d) : (dats m out 0 c).before (3 : Fin 5) t d = bblk m c := by
  refine before_const m out c 3 rfl (fun _ _ => rfl) (bblk m c) (fun _ => rfl) (fun t d => ?_) t d
  funext j
  unfold Dat.fetched Window.fill
  refine (dif_pos ((Window.moved_iff _ _ _).mpr fun a => (j a).isLt)).trans ?_
  exact congrArg (bblk m c) (funext fun a => Fin.ext (by
    fin_cases a <;> exact (Nat.zero_add _).trans (Nat.one_mul _)))

/-! ## The body's obligation -/

/-- The share of the table a visit carries is a share of the one word's buffer. -/
theorem table_share (c : Dev nD) : (Pipeline.ΦT pre0 (tab m 0).1 c : sProp 𝕄)
    = iprop(((c : Thread nD τ).loc main_call0_v1) ↦{fullShare.right} V0 m 0 (Proc.devRef .tc main_call0_v1)) := by
  show bigSep Finset.univ _ = _
  rw [show (Finset.univ : Finset (Fin 1)) = {0} from rfl, bigSep_singleton]
  rfl

/-- The result's window, as a choice of windows whose contents are not followed. -/
def onlyResult : Fin 5 → Bool
  | 0 => false | 1 => false | 2 => false | 3 => false | 4 => true

/-- The obligation with the result's contents not followed: every visit runs, and the inputs' buffers come back. -/
theorem obligation_any (h : k0_chk1 (word m)) (c : Dev nD) :
    BodyObligationLoose (dats m out 0 c) (defs₀ (F := F)) Variants.none () Set.univ onlyResult := fun t => by
  rw [bigSep_W0, bigSep_W0]
  simp only [onlyResult]
  rw [show (dats m out 0 c).Φ t.succ = (dats m out 0 c).Φ t.castSucc from rfl,
    show (dats m out 0 c).owesAt () t.succ = (dats m out 0 c).owesAt () t.castSucc from rfl,
    show (dats m out 0 c).Φ t.castSucc = iprop(Pipeline.ΦA spec0 c ∗ Pipeline.ΦT pre0 (tab m 0).1 c) from rfl, table_share]
  iintro ⟨⟨HA, HT⟩, Ho, ⟨%d0, H0⟩, ⟨%d1, H1⟩, ⟨%d2, H2⟩, ⟨%d3, H3⟩, ⟨%d4, H4⟩⟩
  rw [before_0 m out c t d0, before_1 m out c t d1, before_2 m out c t d2, before_3 m out c t d3]
  iapply (sound_body (F := F) c Set.univ (grid0.coords t) ((cfg0 (tab m 0)).slots t 0) ((cfg0 (tab m 0)).slots t 1)
    ((cfg0 (tab m 0)).slots t 2) ((cfg0 (tab m 0)).slots t 3) ((cfg0 (tab m 0)).slots t 4)
    ((win0 (tab m 0) 0).fill (grid0.coords t) d0 (xb m c t)) d4 (tblk m c) (gblk m c) (bblk m c)
    (V0 m 0 (Proc.devRef .tc main_call0_v1)) fullShare.right h _)
  isplitl [H0 H1 H2 H3 H4 HT]
  · isplitl [H0]; · iexact H0
    isplitl [H1]; · iexact H1
    isplitl [H2]; · iexact H2
    isplitl [H3]; · iexact H3
    isplitl [H4]; · iexact H4
    iexact HT
  iintro ⟨H0, H1, H2, H3, H4, HT⟩
  isplitl [HA HT]
  · isplitl [HA]; · iexact HA
    iexact HT
  isplitl [Ho]; · iexact Ho
  have hx : (win0 (tab m 0) 0).cut (grid0.coords t) (xfull m c t) = xb m c t := Window.cut_fill _ _ _ _
  isplitl [H0]
  · iexists d0
    change _ ⊢ owns (c : Thread nD τ) (stage0_0 ((cfg0 (tab m 0)).slots t 0)) fullShare
      ((win0 (tab m 0) 0).fill (grid0.coords t) d0 ((win0 (tab m 0) 0).cut (grid0.coords t) (xfull m c t)))
    rw [hx]
  isplitl [H1]; · iexact H1
  isplitl [H2]; · iexact H2
  isplitl [H3]; · iexact H3
  iexists (pay m h c ((win0 (tab m 0) 0).fill (grid0.coords t) d0 (xb m c t)))
  iexact H4

/-- The obligation with the result followed: if on the rows inside the array a visit's result depends on the rows
    inside the array only, and is `out` there, then every visit leaves `out` on those rows. -/
theorem obligation_exact (h : k0_chk1 (word m))
    (hout : ∀ c (t : Fin grid0.N) d, (win0 (tab m 0) 4).cut (grid0.coords t)
        (pay m h c ((win0 (tab m 0) 0).fill (grid0.coords t) d (xb m c t)))
      = (win0 (tab m 0) 4).cut (grid0.coords t) (out c t)) (c : Dev nD) :
    BodyObligationLoose (dats m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl,
    show (dats m out 0 c).Φ t.castSucc = iprop(Pipeline.ΦA spec0 c ∗ Pipeline.ΦT pre0 (tab m 0).1 c) from rfl, table_share]
  iintro ⟨⟨HA, HT⟩, Ho, ⟨%d0, H0⟩, ⟨%d1, H1⟩, ⟨%d2, H2⟩, ⟨%d3, H3⟩, ⟨%d4, H4⟩⟩
  rw [before_0 m out c t d0, before_1 m out c t d1, before_2 m out c t d2, before_3 m out c t d3, before_4 m out c t d4]
  iapply (sound_body (F := F) c Set.univ (grid0.coords t) ((cfg0 (tab m 0)).slots t 0) ((cfg0 (tab m 0)).slots t 1)
    ((cfg0 (tab m 0)).slots t 2) ((cfg0 (tab m 0)).slots t 3) ((cfg0 (tab m 0)).slots t 4)
    ((win0 (tab m 0) 0).fill (grid0.coords t) d0 (xb m c t)) d4 (tblk m c) (gblk m c) (bblk m c)
    (V0 m 0 (Proc.devRef .tc main_call0_v1)) fullShare.right h _)
  isplitl [H0 H1 H2 H3 H4 HT]
  · isplitl [H0]; · iexact H0
    isplitl [H1]; · iexact H1
    isplitl [H2]; · iexact H2
    isplitl [H3]; · iexact H3
    isplitl [H4]; · iexact H4
    iexact HT
  iintro ⟨H0, H1, H2, H3, H4, HT⟩
  isplitl [HA HT]
  · isplitl [HA]; · iexact HA
    iexact HT
  isplitl [Ho]; · iexact Ho
  have hx : (win0 (tab m 0) 0).cut (grid0.coords t) (xfull m c t) = xb m c t := Window.cut_fill _ _ _ _
  have hy := Window.fill_congr_cut (win0 (tab m 0) 4) (grid0.coords t) (hout c t d0)
  isplitl [H0]
  · iexists d0
    change _ ⊢ owns (c : Thread nD τ) (stage0_0 ((cfg0 (tab m 0)).slots t 0)) fullShare
      ((win0 (tab m 0) 0).fill (grid0.coords t) d0 ((win0 (tab m 0) 0).cut (grid0.coords t) (xfull m c t)))
    rw [hx]
  isplitl [H1]; · iexact H1
  isplitl [H2]; · iexact H2
  isplitl [H3]; · iexact H3
  iexists (pay m h c ((win0 (tab m 0) 0).fill (grid0.coords t) d0 (xb m c t)))
  change _ ⊢ owns (c : Thread nD τ) (stage0_4 ((cfg0 (tab m 0)).slots t 4)) fullShare
    ((win0 (tab m 0) 4).fill (grid0.coords t) (pay m h c ((win0 (tab m 0) 0).fill (grid0.coords t) d0 (xb m c t)))
      ((win0 (tab m 0) 4).cut (grid0.coords t) (out c t)))
  rw [hy]
  exact BI.Entails.refl _

end Cert.KernelIdealRun
-- ==== Proof.KernelIdealSides.lean ====
module

public import proofs.«01_k».proof.Proof.KernelIdealLaunch

/-! The host lines on the two sides of the kernel: what the four reshapes before it leave, and that the one reshape
after it touches only the result. -/

@[expose] public section

noncomputable section

namespace Cert.KernelIdealRun

open Cert.KernelIdeal Cert.KernelIdeal.Gen
open Idealize.ShloMosaic Idealize.ShloMosaic.TcCoe
open Idealize.SL Idealize.SL.RA Idealize.SL.BI
open Idealize.SL.Sem
open Idealize.ShloMosaic.Rounds

variable {F : FTy → Type} [FloatOps F]

variable (m : (ℓ : Loc nD τ sig) → Buf (Elt F) ℓ)

/-! ## What the kernel finds -/

/-- Before the kernel nothing writes an argument. -/
theorem V0_arg0 (c : Dev nD) : V0 m c (Proc.devRef .tc main_arg0) = m ((c : Thread nD τ).loc main_arg0) := by
  show StableHlo.after hostOps0 _ _ = _
  after_results
/-- The second argument is as it was when the kernel starts. -/
theorem V0_arg1 (c : Dev nD) : V0 m c (Proc.devRef .tc main_arg1) = m ((c : Thread nD τ).loc main_arg1) := by
  show StableHlo.after hostOps0 _ _ = _
  after_results
/-- So is the third. -/
theorem V0_arg2 (c : Dev nD) : V0 m c (Proc.devRef .tc main_arg2) = m ((c : Thread nD τ).loc main_arg2) := by
  show StableHlo.after hostOps0 _ _ = _
  after_results
/-- So is the fourth. -/
theorem V0_arg3 (c : Dev nD) : V0 m c (Proc.devRef .tc main_arg3) = m ((c : Thread nD τ).loc main_arg3) := by
  show StableHlo.after hostOps0 _ _ = _
  after_results
/-- So is the fifth. -/
theorem V0_arg4 (c : Dev nD) : V0 m c (Proc.devRef .tc main_arg4) = m ((c : Thread nD τ).loc main_arg4) := by
  show StableHlo.after hostOps0 _ _ = _
  after_results

/-- The rows the kernel reads are the first argument's, laid end to end. -/
theorem V0_rows (c : Dev nD) : V0 m c (Proc.devRef .tc main_call0_v0)
    = shapeCast S32768x1024 (m ((c : Thread nD τ).loc main_arg0)) shapeCasts_S4x8192x1024_S32768x1024 := by
  show StableHlo.after hostOps0 _ _ = _
  after_results; rfl

/-- The table word is the last argument. -/
theorem V0_word (c : Dev nD) : V0 m c (Proc.devRef .tc main_call0_v1)
    = shapeCast S1 (m ((c : Thread nD τ).loc main_arg4)) shapeCasts_S_S1 := by
  show StableHlo.after hostOps0 _ _ = _
  after_results; rfl

/-- The scale row is the third argument. -/
theorem V0_scale (c : Dev nD) : V0 m c (Proc.devRef .tc main_call0_v2)
    = shapeCast S1x1024 (m ((c : Thread nD τ).loc main_arg2)) shapeCasts_S1024_S1x1024 := by
  show StableHlo.after hostOps0 _ _ = _
  after_results; rfl

/-- The shift row is the fourth argument. -/
theorem V0_shift (c : Dev nD) : V0 m c (Proc.devRef .tc main_call0_v3)
    = shapeCast S1x1024 (m ((c : Thread nD τ).loc main_arg3)) shapeCasts_S1024_S1x1024 := by
  show StableHlo.after hostOps0 _ _ = _
  after_results; rfl

/-- A last argument in [0, 4) names a row of the table, so the body's load of that row is inside it. -/
theorem word_in_table (h : (m (((0 : Dev nD) : Thread nD τ).loc main_arg4) (fun a => a.elim0)).toNat < 4) :
    k0_chk1 (word m) := by
  have e : word m = m (((0 : Dev nD) : Thread nD τ).loc main_arg4) (fun a => a.elim0) := by
    unfold word
    rw [V0_word]
    exact congrArg (m (((0 : Dev nD) : Thread nD τ).loc main_arg4)) (funext fun a => a.elim0)
  rw [e]
  generalize m (((0 : Dev nD) : Thread nD τ).loc main_arg4) (fun a => a.elim0) = v at h
  intro a
  fin_cases a
  · show (Scalar.indexCast v).toNat + 1 ≤ 4
    have e : (Scalar.indexCast v).toNat = v.toNat := by simp [Scalar.indexCast]
    omega
  · exact Nat.le_refl 1024

/-! ## The lines around the kernel, as the launch takes them -/

/-- The lines before the kernel bring in no buffer of their own. -/
theorem lines_fresh : ([hostOps0] : List (List (HloOp τ sig (Elt F)))).Forall fun ops => ops.Forall fun op => op.fresh = ∅ := by
  simp only [List.Forall]; exact ⟨rfl, rfl, rfl, rfl⟩

set_option maxHeartbeats 2000000 in
/-- @main is the reshapes, the kernel, and the last reshape. -/
theorem main_shape : Pipeline.HMainPK (Ix := Unit) (Name := ℕ) (U := UR sig nD τ) (Lvl := ℕ) pcfgs (0 : Fin 1)
    (defs₀ (F := F)) Variants.none m main (fun c b => V0 m c (Proc.devRef .tc b))
    (fun _ => Pipeline.chain ([hostOps1].map StableHlo.seq)) := by
  have h := Pipeline.hmainP_around (Ix := Unit) (Name := ℕ) (U := UR sig nD τ) (Lvl := ℕ) pcfgs (0 : Fin 1)
    (defs₀ (F := F)) Variants.none m main [hostOps0] [hostOps1]
    (by simp only [List.Forall]; exact hostOps0_sub) lines_fresh main_chain
  exact h

/-- The line after the kernel works on main-memory buffers beside the table. -/
theorem tail_sub : ∀ ops ∈ ([hostOps1] : List (List (HloOp τ sig (Elt F)))), ∀ op ∈ ops,
    op.bufs ⊆ Pipeline.tailRefs sig pre0 spec0 := by
  intro ops hops op hop
  rw [List.mem_singleton] at hops
  subst hops
  refine Pipeline.sub_tailRefs pre0 spec0 op ((List.forall_iff_forall_mem.mp hostOps1_sub) op hop) ?_
  rw [List.mem_singleton] at hop
  subst hop
  intro j
  fin_cases j
  intro hb
  rcases Finset.mem_insert.mp hb with hb | hb
  · exact StableHlo.devRef_ne_of_ne (by decide) hb
  · exact StableHlo.devRef_ne_of_ne (by decide) (Finset.mem_singleton.mp hb)

/-- It brings in no buffer of its own. -/
theorem tail_fresh : ∀ ops ∈ ([hostOps1] : List (List (HloOp τ sig (Elt F)))), ∀ op ∈ ops, op.fresh = ∅ := by
  intro ops hops op hop
  rw [List.mem_singleton] at hops
  subst hops
  rw [List.mem_singleton] at hop
  subst hop
  rfl

/-- It writes none of the arrays that the kernel works on. -/
theorem tail_keep : ∀ ops ∈ ([hostOps1] : List (List (HloOp τ sig (Elt F)))), ∀ op ∈ ops, ∀ w,
    Proc.devRef .tc (Pipeline.arrRef spec0 w) ∉ op.writes := by
  intro ops hops op hop w
  rw [List.mem_singleton] at hops
  subst hops
  rw [List.mem_singleton] at hop
  subst hop
  intro hb
  exact StableHlo.devRef_ne_of_ne ((by decide : ∀ w, Pipeline.arrRef spec0 w ≠ main_v0) w) (Finset.mem_singleton.mp hb)

/-- It writes the result only. -/
theorem tail_writes : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  rw [List.mem_singleton] at hops
  subst hops
  rw [List.mem_singleton] at hop
  subst hop
  exact Finset.mem_singleton.mpr (Proc.devRef_injective _ (Finset.mem_singleton.mp hb))

end Cert.KernelIdealRun
-- ==== Proof.KernelIdealFrame.lean ====
module

public import proofs.«01_k».proof.Proof.KernelIdealSides

/-! The kernel's run with the result's contents not followed: it ends, and the five arguments are as they were. -/

@[expose] public section

noncomputable section

namespace Cert.KernelIdealRun

open Cert.KernelIdeal Cert.KernelIdeal.Gen
open Idealize.ShloMosaic Idealize.ShloMosaic.TcCoe
open Idealize.SL Idealize.SL.RA Idealize.SL.BI
open Idealize.SL.Sem
open Idealize.ShloMosaic.Rounds
open Idealize.ShloMosaic.Pipeline (Dat RDat)

variable {F : FTy → Type} [FloatOps F]

variable (m : (ℓ : Loc nD τ sig) → Buf (Elt F) ℓ) (g : Dev nD → PrngReg)
  (out : Dev nD → Fin grid0.N → S3280x1024.Idx → Elt F .f32)

/-- The table word the launch holds is every device's. -/
theorem tables_agree (c : Dev nD) (k : Fin 1) : V0 m c (Proc.devRef .tc (pre0.ref k)) = (tab m 0).1 k := by
  rw [Subsingleton.elim c 0]

/-- A buffer in main memory that is no window's array and not the result is one the kernel and its tail leave alone. -/
theorem beside (b : Ref sig .tc) (hs : b.isScoped = false) (hw : ∀ w, Pipeline.arrRef spec0 w ≠ b) (hv : b ≠ main_v0) :
    b ∈ Pipeline.restRefs sig spec0 \ {main_v0} :=
  Finset.mem_sdiff.mpr ⟨Pipeline.mem_restRefs_of b hs hw, fun h => hv (Finset.mem_singleton.mp h)⟩

/-- The five arguments are as they were, and every counter is at zero. -/
def Untouched (r : PUnit × MemSt nD τ sig (Elt F)) : Prop :=
  (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
  ∧ r.2.sem = fun _ => 0

set_option backward.isDefEq.respectTransparency.types false in
/-- With the last argument in range, every execution ends with the arguments unchanged and every counter at zero. -/
theorem run_any (h : k0_chk1 (word m)) :
    θ_run (defs (F := F)) (onTc (τ := τ) (main (F := F))) ⟨m, fun _ => 0, g⟩ (Untouched m) := by
  refine Pipeline.θ_run_frameP_around_T_forget pcfgs (tab m) (dats m (fun _ _ _ => Scalar.ofBits .f32 0#32)) (0 : Fin 1) launch0
    (defs₀ (F := F)) Variants.none onlyResult {main_v0} m g main
    (hbody := obligation_any m _ h)
    (hshare := fun c => (dats m _ 0 c).share_full fun _ => rfl) (howed := fun _ _ => rfl)
    (V₀ := V0 m) (opss := [hostOps1]) (hsub := tail_sub) (hfresh := tail_fresh) (hkeep := tail_keep) (hT := tail_writes)
    (hmain := main_shape m) (hA := fun _ _ => rfl) (hpf := tables_agree m) (hΦ := fun _ _ => rfl)
    (Q' := Untouched m) (hQ' := ?_)
  rintro r ⟨hr, hz⟩
  refine ⟨fun c => ?_, hz⟩
  obtain ⟨harr, hrest⟩ := hr c
  refine ⟨?_, ?_, ?_, ?_, ?_⟩
  · exact (hrest main_arg0 (beside main_arg0 (by decide) (by decide) (by decide))).trans (V0_arg0 m c)
  · have e := (Dat.toRForget_arrAt_iff (dat := dats m (fun _ _ _ => Scalar.ofBits .f32 0#32) 0 c) (fgt := onlyResult) (w := (1 : Fin 5)) rfl _ _).mp (harr (1 : Fin 5))
    exact (e.trans (Dat.arrAt_in (dats m (fun _ _ _ => Scalar.ofBits .f32 0#32) 0 c) (1 : Fin 5) rfl _)).trans (V0_arg1 m c)
  · exact (hrest main_arg2 (beside main_arg2 (by decide) (by decide) (by decide))).trans (V0_arg2 m c)
  · exact (hrest main_arg3 (beside main_arg3 (by decide) (by decide) (by decide))).trans (V0_arg3 m c)
  · exact (hrest main_arg4 (beside main_arg4 (by decide) (by decide) (by decide))).trans (V0_arg4 m c)

end Cert.KernelIdealRun
-- ==== Proof.RowNorm.lean ====
module

public import Idealize.ShloMosaic.Lib.Pointwise
public import Idealize.ShloMosaic.Lib.IdealHost

/-!
The equation between the two ways of normalising one row of 1024 extended reals: multiply the
centred entry by the reciprocal root of the spread, or divide it by the root.
-/

@[expose] public section

noncomputable section

namespace Cert.RowNorm

open Idealize.ShloMosaic
open scoped BigOperators

/-- The row's length, as the word both programs divide by. -/
abbrev count : EReal := Ideal.ofBits FTy.f32 1149239296#32

/-- The small positive word both programs add under the root. -/
abbrev tiny : EReal := Ideal.ofBits FTy.f32 925353388#32

/-- An entry less the row's mean. -/
def centred (x : Fin 1024 → EReal) (l : Fin 1024) : EReal :=
  x l - Ideal.div (∑ k, x k) count

/-- The row's variance plus the small word. -/
def spread (x : Fin 1024 → EReal) : EReal :=
  Ideal.div (∑ k, centred x k * centred x k) count + tiny

/-- The row's length is the real 1024. -/
theorem count_eq : count = ((1024 : ℝ) : EReal) := by
  simp [count, Ideal.ofBits, Ideal.ieee, -EReal.coe_mul]; norm_num

/-- The row's length is positive. -/
theorem count_pos : 0 < count := by
  rw [count_eq]; exact EReal.coe_pos.mpr (by norm_num)

/-- The small word is positive. -/
theorem tiny_pos : 0 < tiny := by
  simp [tiny, Ideal.ofBits, Ideal.ieee, -EReal.coe_mul]

/-- Dividing something non-negative by the row's length leaves it non-negative. -/
theorem div_count_nonneg {y : EReal} (hy : 0 ≤ y) : 0 ≤ Ideal.div y count := by
  unfold Ideal.div
  rw [if_neg count_pos.ne']
  exact mul_nonneg hy (EReal.inv_nonneg_of_nonneg count_pos.le)

/-- A square is non-negative, at the infinities too. -/
theorem square_nonneg (y : EReal) : 0 ≤ y * y := by
  rcases le_total 0 y with h | h
  · exact mul_nonneg h h
  · have h' := EReal.neg_le_neg_iff.mpr h
    rw [neg_zero] at h'
    have := mul_nonneg h' h'
    rwa [EReal.neg_mul, mul_comm y, EReal.neg_mul, neg_neg] at this

/-- The spread is positive: a mean of squares plus something positive. -/
theorem spread_pos (x : Fin 1024 → EReal) : 0 < spread x :=
  lt_of_lt_of_le tiny_pos
    (le_add_of_nonneg_left (div_count_nonneg (Finset.sum_nonneg fun k _ => square_nonneg _)))

/-- The root of a positive real. -/
theorem root_real {r : ℝ} (hr : 0 < r) : Ideal.sqrt (r : EReal) = ((Real.sqrt r : ℝ) : EReal) :=
  if_neg hr.not_gt
/-- The reciprocal root of a positive real. -/
theorem rsqrt_real {r : ℝ} (hr : 0 < r) : Ideal.rsqrt (r : EReal) = (((Real.sqrt r)⁻¹ : ℝ) : EReal) :=
  (if_neg hr.not_gt).trans (if_neg hr.ne')

/-- For a positive spread, dividing by its root is multiplying by its reciprocal root. -/
theorem div_sqrt (c v : EReal) (hv : 0 < v) : Ideal.div c (Ideal.sqrt v) = c * Ideal.rsqrt v := by
  induction v with
  | bot => simp at hv
  | top =>
    rw [show Ideal.sqrt ⊤ = ⊤ from rfl, show Ideal.rsqrt ⊤ = 0 from rfl]
    unfold Ideal.div
    rw [if_neg EReal.top_ne_zero, EReal.inv_top]
  | coe r =>
    have hr : 0 < r := EReal.coe_pos.mp hv
    have hs : ((Real.sqrt r : ℝ) : EReal) ≠ 0 := (EReal.coe_pos.mpr (Real.sqrt_pos.mpr hr)).ne'
    rw [root_real hr, rsqrt_real hr]
    unfold Ideal.div
    rw [if_neg hs, EReal.coe_inv]

/-- Nothing is taken off the row's length for degrees of freedom. -/
theorem count_sub_zero : count - FloatOps.sitofp (F := Ideal) FTy.f32 0#32 = count := by
  show count - (((0#32 : BitVec 32).toInt : ℝ) : EReal) = count
  simp

/-- One normalised, scaled and shifted entry of a row with its added table entry. -/
def entry (x : Fin 1024 → EReal) (g b e : EReal) (l : Fin 1024) : EReal :=
  centred x l * Ideal.rsqrt (spread x) * g + (b + e)

/-- The entry with the root divided by and the two additions made one after the other. -/
theorem entry_eq (x : Fin 1024 → EReal) (g b e : EReal) (l : Fin 1024) :
    Ideal.div (centred x l) (Ideal.sqrt (spread x)) * g + b + e = entry x g b e l := by
  rw [div_sqrt _ _ (spread_pos x), add_assoc]; rfl

/-- The table row a word names. -/
def pick (w : BitVec 32) : Fin 4 := ⟨w.toNat % 4, Nat.mod_lt _ (by decide)⟩

/-- The whole result as a function of the five arguments, entry by entry. -/
def result (x : (⟨3, ![4, 8192, 1024]⟩ : Shape).Idx → EReal) (t : (⟨2, ![4, 1024]⟩ : Shape).Idx → EReal)
    (g b : (⟨1, ![1024]⟩ : Shape).Idx → EReal) (w : BitVec 32) : (⟨3, ![4, 8192, 1024]⟩ : Shape).Idx → EReal :=
  fun i => entry (fun k => x (ix3 (i 0) (i 1) k)) (g (ix1 (i 2))) (b (ix1 (i 2))) (t (ix2 (pick w) (i 2))) (i 2)

end Cert.RowNorm
-- ==== Proof.KernelIdealRows.lean ====
module

public import proofs.«01_k».proof.Proof.KernelIdealFrame
public import proofs.«01_k».proof.Proof.RowNorm
public import Idealize.ShloMosaic.Lib.Pipeline.ValueKit

/-! What the kernel leaves in its output array, row by row, over the extended reals. -/

@[expose] public section

noncomputable section

namespace Cert.KernelIdealRun

open Cert.KernelIdeal Cert.KernelIdeal.Gen
open Idealize.ShloMosaic Idealize.ShloMosaic.TcCoe
open Idealize.SL.Sem
open Idealize.ShloMosaic.Pipeline (Dat Window)
open Cert.RowNorm
open scoped BigOperators

variable (m : (ℓ : Loc nD τ sig) → Buf (Elt Ideal) ℓ)

/-- One entry of what a visit computes: the normalised entry of its row, scaled, shifted, plus the table entry. -/
theorem pay_entry (X : S3280x1024.Idx → EReal) (e g b : S1x1024.Idx → EReal) (r : Fin 3280) (l : Fin 1024) :
    k0_pay1 (F := Ideal) X e g b (ix2 r l)
      = entry (fun k => X (ix2 r k)) (g (ix2 0 l)) (b (ix2 0 l)) (e (ix2 0 l)) l := by
  pointwise [k0_pay1]
  rfl

/-- Visit `t` is at rows `3280 t` and on, all columns: for the rows read and for the rows written. -/
theorem place_0 : ∀ t : Fin grid0.N, cc0_transform_0 (grid0.coords t) 0 = t.val ∧ cc0_transform_0 (grid0.coords t) 1 = 0 := by
  decide +kernel
/-- The rows written are placed as the rows read. -/
theorem place_4 : ∀ t : Fin grid0.N, cc0_transform_4 (grid0.coords t) 0 = t.val ∧ cc0_transform_4 (grid0.coords t) 1 = 0 := by
  decide +kernel

/-- Visit `t` moves the rows that are left, at most 3280, and every column. -/
theorem extent_0 (t : Fin grid0.N) : (win0 (tab m 0) 0).xsize (grid0.coords t) 0 = min 3280 (32768 - t.val * 3280)
    ∧ (win0 (tab m 0) 0).xsize (grid0.coords t) 1 = 1024 := by
  exact (by decide +kernel : ∀ t : Fin grid0.N,
    (Pipeline.Clip.of (cc0_transform_0 (grid0.coords t) 0) (S3280x1024.size 0) (S32768x1024.size 0)).extent (S3280x1024.size 0)
        = min 3280 (32768 - t.val * 3280)
      ∧ (Pipeline.Clip.of (cc0_transform_0 (grid0.coords t) 1) (S3280x1024.size 1) (S32768x1024.size 1)).extent (S3280x1024.size 1)
        = 1024) t
/-- As many rows and columns are written as are read. -/
theorem extent_4 (t : Fin grid0.N) : (win0 (tab m 0) 4).xsize (grid0.coords t) 0 = min 3280 (32768 - t.val * 3280)
    ∧ (win0 (tab m 0) 4).xsize (grid0.coords t) 1 = 1024 := by
  exact (by decide +kernel : ∀ t : Fin grid0.N,
    (Pipeline.Clip.of (cc0_transform_4 (grid0.coords t) 0) (S3280x1024.size 0) (S32768x1024.size 0)).extent (S3280x1024.size 0)
        = min 3280 (32768 - t.val * 3280)
      ∧ (Pipeline.Clip.of (cc0_transform_4 (grid0.coords t) 1) (S3280x1024.size 1) (S32768x1024.size 1)).extent (S3280x1024.size 1)
        = 1024) t

/-- A row of the visited block that lies inside the array is that row of the array, whatever filled the rest. -/
theorem fill_row (c : Dev nD) (t : Fin grid0.N) (d) (r : Fin 3280) (ρ : Fin 32768) (hρ : ρ.val = t.val * 3280 + r.val)
    (k : Fin 1024) :
    (win0 (tab m 0) 0).fill (grid0.coords t) d (xb m c t) (ix2 r k) = V0 m c (Proc.devRef .tc main_call0_v0) (ix2 ρ k) := by
  have hm : (win0 (tab m 0) 0).moved (grid0.coords t) (ix2 r k) := by
    refine (Window.moved_iff _ _ _).mpr fun a => ?_
    fin_cases a
    · refine lt_of_lt_of_eq ?_ (extent_0 m t).1.symm
      show r.val < _
      omega
    · exact lt_of_lt_of_eq k.isLt (extent_0 m t).2.symm
  unfold Window.fill
  refine (dif_pos hm).trans ?_
  refine congrArg (V0 m c (Proc.devRef .tc main_call0_v0)) (funext fun a => Fin.ext ?_)
  fin_cases a
  · show cc0_transform_0 (grid0.coords t) 0 * 3280 + 1 * r.val = ρ.val
    rw [(place_0 t).1]; omega
  · show cc0_transform_0 (grid0.coords t) 1 * 1024 + 1 * k.val = k.val
    rw [(place_0 t).2]; omega

/-- The output array: every entry from its own row of the rows the kernel finds. -/
def grown (h : k0_chk1 (word m)) (c : Dev nD) : S32768x1024.Idx → EReal := fun i =>
  entry (fun k => V0 m c (Proc.devRef .tc main_call0_v0) (ix2 (i 0) k)) (gblk m c (ix2 0 (i 1))) (bblk m c (ix2 0 (i 1)))
    (rowAt (word m) h (tblk m c) (ix2 0 (i 1))) (i 1)

/-- A visit's entry on a row inside the array is the output array's. -/
theorem pay_row (h : k0_chk1 (word m)) (c : Dev nD) (t : Fin grid0.N) (d) (r : Fin 3280) (ρ : Fin 32768)
    (hρ : ρ.val = t.val * 3280 + r.val) (l : Fin 1024) :
    pay m h c ((win0 (tab m 0) 0).fill (grid0.coords t) d (xb m c t)) (ix2 r l) = grown m h c (ix2 ρ l) := by
  unfold pay
  rw [pay_entry]
  unfold grown
  exact congrArg (fun x => entry x _ _ _ _) (funext fun k => fill_row m c t d r ρ hρ k)

/-- The place in the output array of an entry a visit writes back. -/
theorem spot (t : Fin grid0.N) (j : ((win0 (tab m 0) 4).xblock (grid0.coords t)).Idx) (ρ : Fin 32768) (l : Fin 1024)
    (hρ : ρ.val = t.val * 3280 + (j 0).val) (hl : l.val = (j 1).val) :
    ((win0 (tab m 0) 4).blk t).view.emb j = (ix2 ρ l : S32768x1024.Idx) := by
  have p0 : cc0_transform_4 (grid0.coords t) 0 * 3280 + 1 * (j 0).val = ρ.val :=
    (congrArg (fun n => n * 3280 + 1 * (j 0).val) (place_4 t).1).trans (by rw [hρ, Nat.one_mul])
  have p1 : cc0_transform_4 (grid0.coords t) 1 * 1024 + 1 * (j 1).val = l.val :=
    (congrArg (fun n => n * 1024 + 1 * (j 1).val) (place_4 t).2).trans (by rw [hl, Nat.zero_mul, Nat.zero_add, Nat.one_mul])
  funext a
  refine Fin.ext ?_
  fin_cases a
  · exact p0
  · exact p1

/-- On the entries a visit writes back, what it computes is the output array, whatever filled the rows past the end. -/
theorem pay_grown (h : k0_chk1 (word m)) (c : Dev nD) (t : Fin grid0.N) (d)
    (j : ((win0 (tab m 0) 4).xblock (grid0.coords t)).Idx) :
    pay m h c ((win0 (tab m 0) 0).fill (grid0.coords t) d (xb m c t)) ((win0 (tab m 0) 4).xinj (grid0.coords t) j)
      = grown m h c (((win0 (tab m 0) 4).blk t).view.emb j) := by
  have h0 : (j 0).val < min 3280 (32768 - t.val * 3280) := lt_of_lt_of_eq (j 0).isLt (extent_4 m t).1
  have h1 : (j 1).val < 1024 := lt_of_lt_of_eq (j 1).isLt (extent_4 m t).2
  have hr : (j 0).val < 3280 := lt_of_lt_of_le h0 (Nat.min_le_left _ _)
  have hp : t.val * 3280 + (j 0).val < 32768 := by
    have := lt_of_lt_of_le h0 (Nat.min_le_right _ _)
    generalize (j 0).val = a at this ⊢
    omega
  have e1 : (win0 (tab m 0) 4).xinj (grid0.coords t) j = (ix2 (⟨(j 0).val, hr⟩ : Fin 3280) (⟨(j 1).val, h1⟩ : Fin 1024) : S3280x1024.Idx) :=
    funext fun a => by fin_cases a <;> rfl
  exact (congrArg (pay m h c _) e1).trans ((pay_row m h c t d _ ⟨_, hp⟩ rfl _).trans
    (congrArg (grown m h c) (spot m t j ⟨_, hp⟩ ⟨(j 1).val, h1⟩ rfl rfl)).symm)

/-- Every entry of the output array is written back by the visit its row falls to. -/
theorem covered (i : S32768x1024.Idx) :
    ∃ t : Fin grid0.N, (win0 (tab m 0) 4).flush t = true ∧ i ∈ ((win0 (tab m 0) 4).blk t).view.set := by
  have hi0 : (i 0).val < 32768 := (i 0).isLt
  have hi1 : (i 1).val < 1024 := (i 1).isLt
  have ht : (i 0).val / 3280 < grid0.N := by show _ < 10; omega
  refine ⟨⟨(i 0).val / 3280, ht⟩, flush_4 m _, ?_⟩
  refine ((win0 (tab m 0) 4).emb_mem_blk_iff _ i rfl).mpr fun a => ?_
  fin_cases a
  · have hx := (extent_4 m ⟨(i 0).val / 3280, ht⟩).1
    have hp := (place_4 ⟨(i 0).val / 3280, ht⟩).1
    show cc0_transform_4 (grid0.coords ⟨(i 0).val / 3280, ht⟩) 0 * 3280 ≤ (i 0).val ∧ (i 0).val < cc0_transform_4 (grid0.coords ⟨(i 0).val / 3280, ht⟩) 0 * 3280 + (win0 (tab m 0) 4).xsize (grid0.coords ⟨(i 0).val / 3280, ht⟩) 0
    rw [hp, hx]
    simp only
    omega
  · have hx := (extent_4 m ⟨(i 0).val / 3280, ht⟩).2
    have hp := (place_4 ⟨(i 0).val / 3280, ht⟩).2
    show cc0_transform_4 (grid0.coords ⟨(i 0).val / 3280, ht⟩) 1 * 1024 ≤ (i 1).val ∧ (i 1).val < cc0_transform_4 (grid0.coords ⟨(i 0).val / 3280, ht⟩) 1 * 1024 + (win0 (tab m 0) 4).xsize (grid0.coords ⟨(i 0).val / 3280, ht⟩) 1
    rw [hp, hx]
    omega

/-- What each visit leaves in the result's buffer, the rows past the end computed from zeros. -/
def leaves (h : k0_chk1 (word m)) (c : Dev nD) (t : Fin grid0.N) : S3280x1024.Idx → EReal :=
  pay m h c (xfull m c t)

/-- The entries of it that a visit writes back are the output array's. -/
theorem leaves_grown (h : k0_chk1 (word m)) (c : Dev nD) (t : Fin grid0.N)
    (j : ((win0 (tab m 0) 4).xblock (grid0.coords t)).Idx) :
    leaves m h c t ((win0 (tab m 0) 4).xinj (grid0.coords t) j) = grown m h c (((win0 (tab m 0) 4).blk t).view.emb j) := by
  unfold leaves xfull
  exact pay_grown m h c t _ j

/-- A visit's written-back entries do not depend on what filled the rows past the end. -/
theorem leaves_cut (h : k0_chk1 (word m)) (c : Dev nD) (t : Fin grid0.N) (d) :
    (win0 (tab m 0) 4).cut (grid0.coords t) (pay m h c ((win0 (tab m 0) 0).fill (grid0.coords t) d (xb m c t)))
      = (win0 (tab m 0) 4).cut (grid0.coords t) (leaves m h c t) := by
  funext j
  rw [Window.cut_apply, Window.cut_apply]
  have e1 := pay_grown m h c t d j
  have e2 := leaves_grown m h c t j
  generalize leaves m h c t = L at e2 ⊢
  generalize pay m h c _ = P at e1 ⊢
  exact e1.trans e2.symm

/-- After the last visit the output array is the one named above. -/
theorem array_grown (h : k0_chk1 (word m)) (c : Dev nD) :
    (dats m (leaves m h) 0 c).arrAt (4 : Fin 5) (cfg0 (tab m 0)).N = grown m h c := by
  refine (dats m (leaves m h) 0 c).arrAt_eq_of_emb (4 : Fin 5) (grown m h c) (fun t _ y => ?_) (covered m)
  exact leaves_grown m h c t y

end Cert.KernelIdealRun
-- ==== Proof.KernelIdealExact.lean ====
module

public import proofs.«01_k».proof.Proof.KernelIdealRows

/-! The kernel's run over the extended reals with the result followed. -/

@[expose] public section

noncomputable section

namespace Cert.KernelIdealRun

open Cert.KernelIdeal Cert.KernelIdeal.Gen
open Idealize.ShloMosaic Idealize.ShloMosaic.TcCoe
open Idealize.SL.Sem
open Idealize.ShloMosaic.Pipeline (Dat Window)
open Cert.RowNorm
open scoped BigOperators

variable (m : (ℓ : Loc nD τ sig) → Buf (Elt Ideal) ℓ) (g : Dev nD → PrngReg)

/-- The row of the table the body loads is the one the word names. -/
theorem row_named (v : BitVec 32) (h : k0_chk1 v) (hv : v.toNat < 4) (X : S4x1024.Idx → EReal) (l : Fin 1024) :
    rowAt (F := Ideal) v h X (ix2 0 l) = X (ix2 (pick v) l) := by
  refine congrArg X (funext fun a => Fin.ext ?_)
  fin_cases a
  · show (Scalar.indexCast v).toNat + 1 * 0 = v.toNat % 4
    have e : (Scalar.indexCast v).toNat = v.toNat := by simp [Scalar.indexCast]
    omega
  · show 0 + 1 * l.val = l.val
    omega

/-- A reading of the reshaped rows: row `8192 a + s` is row `s` of slab `a`. -/
theorem rows_apply (X : S4x8192x1024.Idx → EReal) (a : Fin 4) (s : Fin 8192) (l : Fin 1024) (ρ : Fin 32768)
    (hρ : ρ.val = a.val * 8192 + s.val) :
    shapeCast S32768x1024 X shapeCasts_S4x8192x1024_S32768x1024 (ix2 ρ l) = X (ix3 a s l) := by
  pointwise []
  have h1 : ρ.val / 8192 = a.val := by omega
  have h2 : ρ.val % 8192 = s.val := by omega
  exact congrArg₂ (fun a s => X (ix3 a s l)) (Fin.ext h1) (Fin.ext h2)

/-- The output array reshaped is the result. -/
theorem slabs_apply (Y : S32768x1024.Idx → EReal) (a : Fin 4) (s : Fin 8192) (l : Fin 1024) (ρ : Fin 32768)
    (hρ : ρ.val = a.val * 8192 + s.val) :
    shapeCast S4x8192x1024 Y shapeCasts_S32768x1024_S4x8192x1024 (ix3 a s l) = Y (ix2 ρ l) := by
  pointwise []
  exact congrArg (fun ρ => Y (ix2 ρ l)) (Fin.ext hρ.symm)

/-- A vector laid out as one row. -/
theorem one_row (G : S1024.Idx → EReal) (l : Fin 1024) :
    shapeCast S1x1024 G shapeCasts_S1024_S1x1024 (ix2 0 l) = G (ix1 l) := by
  pointwise []

/-- The table word is the last argument's one entry. -/
theorem word_eq : word m = m (((0 : Dev nD) : Thread nD τ).loc main_arg4) ix0 := by
  unfold word
  rw [V0_word]
  exact congrArg (m (((0 : Dev nD) : Thread nD τ).loc main_arg4)) (funext fun a => a.elim0)

/-- The output array, reshaped to the result's shape, is the result as a function of the arguments. -/
theorem grown_result (h : k0_chk1 (word m)) (c : Dev nD)
    (hw : (m ((c : Thread nD τ).loc main_arg4) ix0).toNat < 4) :
    shapeCast S4x8192x1024 (grown m h c) shapeCasts_S32768x1024_S4x8192x1024
      = result (m ((c : Thread nD τ).loc main_arg0)) (m ((c : Thread nD τ).loc main_arg1))
          (m ((c : Thread nD τ).loc main_arg2)) (m ((c : Thread nD τ).loc main_arg3))
          (m ((c : Thread nD τ).loc main_arg4) ix0) := by
  obtain rfl : c = 0 := Subsingleton.elim _ _
  funext i
  obtain ⟨a, s, l, rfl⟩ : ∃ (a : Fin 4) (s : Fin 8192) (l : Fin 1024), i = ix3 a s l :=
    ⟨i 0, i 1, i 2, funext fun k => by fin_cases k <;> rfl⟩
  have hρ : a.val * 8192 + s.val < 32768 := by omega
  rw [slabs_apply _ a s l ⟨_, hρ⟩ rfl]
  unfold grown result
  have e0 : ∀ k : Fin 1024, V0 m 0 (Proc.devRef .tc main_call0_v0) (ix2 (⟨_, hρ⟩ : Fin 32768) k)
      = m (((0 : Dev nD) : Thread nD τ).loc main_arg0) (ix3 a s k) := fun k => by
    rw [V0_rows]; exact rows_apply _ a s k _ rfl
  have e1 : rowAt (F := Ideal) (word m) h (tblk m 0) (ix2 0 l)
      = m (((0 : Dev nD) : Thread nD τ).loc main_arg1) (ix2 (pick (m (((0 : Dev nD) : Thread nD τ).loc main_arg4) ix0)) l) := by
    rw [row_named _ h (by rw [word_eq]; exact hw), word_eq]
    unfold tblk
    rw [V0_arg1]
  have e2 : gblk m 0 (ix2 0 l) = m (((0 : Dev nD) : Thread nD τ).loc main_arg2) (ix1 l) := by
    unfold gblk; rw [V0_scale]; exact one_row _ l
  have e3 : bblk m 0 (ix2 0 l) = m (((0 : Dev nD) : Thread nD τ).loc main_arg3) (ix1 l) := by
    unfold bblk; rw [V0_shift]; exact one_row _ l
  show entry (fun k => V0 m 0 (Proc.devRef .tc main_call0_v0) (ix2 (⟨_, hρ⟩ : Fin 32768) k)) (gblk m 0 (ix2 0 l))
    (bblk m 0 (ix2 0 l)) (rowAt (F := Ideal) (word m) h (tblk m 0) (ix2 0 l)) l = entry _ _ _ _ l
  rw [e1, e2, e3, funext e0]
  rfl

/-- The last reshape writes the result from the output array and nothing else. -/
theorem tail_result (V : Valuation τ sig (Elt Ideal)) : StableHlo.after hostOps1 V (Proc.devRef .tc main_v0)
    = shapeCast S4x8192x1024 (V (Proc.devRef .tc main_call0_v4)) shapeCasts_S32768x1024_S4x8192x1024 := by
  after_results; rfl
/-- The last reshape leaves the first argument alone. -/
theorem tail_arg0 (V : Valuation τ sig (Elt Ideal)) :
    StableHlo.after hostOps1 V (Proc.devRef .tc main_arg0) = V (Proc.devRef .tc main_arg0) := by
  after_results
/-- The last reshape leaves the third argument alone. -/
theorem tail_arg2 (V : Valuation τ sig (Elt Ideal)) :
    StableHlo.after hostOps1 V (Proc.devRef .tc main_arg2) = V (Proc.devRef .tc main_arg2) := by
  after_results
/-- The last reshape leaves the fourth argument alone. -/
theorem tail_arg3 (V : Valuation τ sig (Elt Ideal)) :
    StableHlo.after hostOps1 V (Proc.devRef .tc main_arg3) = V (Proc.devRef .tc main_arg3) := by
  after_results
/-- The last reshape leaves the fifth argument alone. -/
theorem tail_arg4 (V : Valuation τ sig (Elt Ideal)) :
    StableHlo.after hostOps1 V (Proc.devRef .tc main_arg4) = V (Proc.devRef .tc main_arg4) := by
  after_results

/-- The result is the normalised rows plus the named row of the table, and the arguments are as they were. -/
def Exact (r : PUnit × MemSt nD τ sig (Elt Ideal)) : Prop :=
  ∀ c : Dev nD, r.2.mem ((c : Thread nD τ).loc main_v0)
        = result (m ((c : Thread nD τ).loc main_arg0)) (m ((c : Thread nD τ).loc main_arg1))
            (m ((c : Thread nD τ).loc main_arg2)) (m ((c : Thread nD τ).loc main_arg3))
            (m ((c : Thread nD τ).loc main_arg4) ix0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)

/-- The buffers of device `c` when the last reshape starts. -/
abbrev Vk (h : k0_chk1 (word m)) (c : Dev nD) : Valuation τ sig (Elt Ideal) :=
  Pipeline.withArrays spec0 c (V0 m c) (fun w => (dats m (leaves m h) 0 c).arrAt w (cfg0 (tab m 0)).N)

/-- A buffer that is no window's array comes through the kernel as the host lines before it left it. -/
theorem kept_by_kernel (h : k0_chk1 (word m)) (c : Dev nD) (b : Ref sig .tc) (hb : ∀ w, Pipeline.arrRef spec0 w ≠ b) :
    Vk m h c (Proc.devRef .tc b) = V0 m c (Proc.devRef .tc b) :=
  Pipeline.withArrays_of_ne spec0 c (V0 m c) _ b hb

/-- A main-memory buffer that is no window's array is one the kernel's frame keeps. -/
theorem kept (b : Ref sig .tc) (hs : b.isScoped = false) (hw : ∀ w, Pipeline.arrRef spec0 w ≠ b) :
    b ∈ Pipeline.restRefs sig spec0 := Pipeline.mem_restRefs_of b hs hw

/-- The output array when the last reshape starts. -/
theorem array_before_tail (h : k0_chk1 (word m)) (c : Dev nD) :
    Vk m h c (Proc.devRef .tc main_call0_v4) = grown m h c :=
  (Pipeline.withArrays_arr spec0 (launch0 (F := Ideal)).win.arr_inj c (V0 m c)
    (fun w => (dats m (leaves m h) 0 c).arrAt w (cfg0 (tab m 0)).N) (4 : Fin 5)).trans (array_grown m h c)

set_option backward.isDefEq.respectTransparency.types false in
/-- With the last argument in range, every execution ends with the result in place and the arguments unchanged. -/
theorem run_exact (h : k0_chk1 (word m)) (hw : ∀ c : Dev nD, (m ((c : Thread nD τ).loc main_arg4) ix0).toNat < 4) :
    θ_run (defs (F := Ideal)) (onTc (τ := τ) (main (F := Ideal))) ⟨m, fun _ => 0, g⟩ (Exact m) := by
  refine Pipeline.θ_run_frameP_around pcfgs (tab m) (dats m (leaves m h)) (0 : Fin 1) (launch0 (F := Ideal))
    (defs₀ (F := Ideal)) Variants.none m g main
    (hbody := obligation_exact m _ h (leaves_cut m h))
    (hshare := fun c => (dats m _ 0 c).share_full fun _ => rfl) (howed := fun _ _ => rfl)
    (V₀ := V0 m) (opss := [hostOps1]) (hsub := tail_sub) (hfresh := tail_fresh) (hkeep := tail_keep)
    (hmain := main_shape m) (hA := fun _ _ => rfl) (hpf := tables_agree m) (hΦ := fun _ _ => rfl)
    (Q' := Exact m) (hQ' := ?_)
  rintro r ⟨hr, -⟩ c
  obtain ⟨harr, hrest⟩ := hr c
  refine ⟨?_, ?_, ?_, ?_, ?_, ?_⟩
  · refine (hrest main_v0 (kept main_v0 (by decide) (by decide))).trans ((tail_result (Vk m h c)).trans ?_)
    rw [array_before_tail]
    exact grown_result m h c (hw c)
  · exact (hrest main_arg0 (kept main_arg0 (by decide) (by decide))).trans
      ((tail_arg0 (Vk m h c)).trans ((kept_by_kernel m h c main_arg0 (by decide)).trans (V0_arg0 m c)))
  · exact ((harr (1 : Fin 5)).trans (Dat.arrAt_in (dats m (leaves m h) 0 c) (1 : Fin 5) rfl _)).trans (V0_arg1 m c)
  · exact (hrest main_arg2 (kept main_arg2 (by decide) (by decide))).trans
      ((tail_arg2 (Vk m h c)).trans ((kept_by_kernel m h c main_arg2 (by decide)).trans (V0_arg2 m c)))
  · exact (hrest main_arg3 (kept main_arg3 (by decide) (by decide))).trans
      ((tail_arg3 (Vk m h c)).trans ((kept_by_kernel m h c main_arg3 (by decide)).trans (V0_arg3 m c)))
  · exact (hrest main_arg4 (kept main_arg4 (by decide) (by decide))).trans
      ((tail_arg4 (Vk m h c)).trans ((kept_by_kernel m h c main_arg4 (by decide)).trans (V0_arg4 m c)))

end Cert.KernelIdealRun
-- ==== Proof.ReferenceRows.lean ====
module

public import proofs.«01_k».proof.Proof.Gen.ReferenceIdeal.Run
public import proofs.«01_k».proof.Proof.RowNorm

/-! The reference's result, entry by entry, when the selecting word names a row of the table. -/

@[expose] public section

noncomputable section

namespace Cert.ReferenceRows

open Cert.ReferenceIdeal Cert.ReferenceIdeal.Gen
open Idealize.ShloMosaic Idealize.ShloMosaic.TcCoe
open Idealize.SL.Sem
open Cert.RowNorm
open scoped BigOperators

/-- A word below four is one of four. -/
theorem four_words (w : BitVec 32) (hw : w.toNat < 4) : w = 0#32 ∨ w = 1#32 ∨ w = 2#32 ∨ w = 3#32 := by
  simp only [← BitVec.toNat_inj, BitVec.toNat_ofNat]
  omega

/-- The word below zero is wrapped by four; one below four is left as it is. -/
theorem wrapped (w : BitVec 32) (hw : w.toNat < 4) :
    Scalar.select (IntOp.cmpi .slt w 0#32) (IntOp.addi w 4#32) w = w := by
  rcases four_words w hw with rfl | rfl | rfl | rfl <;> decide

/-- A word below four lies between zero and three. -/
theorem between (w : BitVec 32) (hw : w.toNat < 4) :
    IntOp.andi (IntOp.cmpi .sge w 0#32) (IntOp.cmpi .sle w 3#32) = 1#1 := by
  rcases four_words w hw with rfl | rfl | rfl | rfl <;> decide

/-- Taking one row of the table: entry `l` of the row the word names. -/
theorem row_take (T : S4x1024.Idx → EReal) (idx : IVec S1 32) (l : Fin 1024) (w : BitVec 32) (hidx : ∀ y, idx y = w)
    (hw : w.toNat < 4) :
    Host.gather gather_S4x1024_S1_S1024_0_0_n_n_0_0_11024 T idx (ix1 l) = T (ix2 (pick w) l) := by
  have hi : w.toInt.toNat = w.toNat := by
    rcases four_words w hw with rfl | rfl | rfl | rfl <;> decide
  unfold Host.gather
  refine congrArg T (funext fun a => Fin.ext ?_)
  fin_cases a
  · show GatherDims.start _ _ idx 0 + GatherDims.batchCoord _ _ 0 + GatherDims.offCoord _ _ 0 = w.toNat % 4
    rw [GatherDims.batchCoord_eq_zero _ _ _ List.not_mem_nil,
      GatherDims.offCoord_eq_zero _ _ _ (by decide)]
    unfold GatherDims.start
    rw [dif_pos (by decide), hidx, hi]
    show min w.toNat 3 + 0 + 0 = w.toNat % 4
    omega
  · show GatherDims.start _ _ idx 1 + GatherDims.batchCoord _ _ 1 + GatherDims.offCoord _ _ 1 = l.val
    rw [GatherDims.batchCoord_eq_zero _ _ _ List.not_mem_nil]
    unfold GatherDims.start GatherDims.offCoord
    rw [dif_neg (by decide), dif_pos (by decide)]
    simp only [Nat.zero_add]
    rfl

/-- The range mask of a row in range is true. -/
theorem mask_true (f : Fin 1 → BitVec 1) (hf : ∀ k, f k = 1#1) :
    Finset.fold IntOp.andi (1#1) f Finset.univ = 1#1 := by
  rw [show f = fun _ => 1#1 from funext hf]; decide

variable (m : (ℓ : Loc nD τ sig) → Buf (Elt Ideal) ℓ) (ρ : Dev nD → PrngReg)

/-- With the word in range, the reference's result is the normalised rows plus the named row of the table, and the
arguments are as they were. -/
theorem run_rows (hw : ∀ c : Dev nD, (m ((c : Thread nD τ).loc main_arg4) ix0).toNat < 4) :
    θ_run (defs (F := Ideal)) (onTc (τ := τ) (main (F := Ideal))) ⟨m, fun _ => 0, ρ⟩ fun r => ∀ c : Dev nD,
      r.2.mem ((c : Thread nD τ).loc main_v21)
          = result (m ((c : Thread nD τ).loc main_arg0)) (m ((c : Thread nD τ).loc main_arg1))
              (m ((c : Thread nD τ).loc main_arg2)) (m ((c : Thread nD τ).loc main_arg3))
              (m ((c : Thread nD τ).loc main_arg4) ix0)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4) := by
  refine (θ_run defs _ _).mono (fun r h c => ⟨?_, (h c).2⟩) (Value.run (F := Ideal) m ρ)
  have hc := hw c
  rw [(h c).1]
  generalize m ((c : Thread nD τ).loc main_arg0) = X
  generalize m ((c : Thread nD τ).loc main_arg1) = T
  generalize m ((c : Thread nD τ).loc main_arg2) = G
  generalize m ((c : Thread nD τ).loc main_arg3) = B
  generalize m ((c : Thread nD τ).loc main_arg4) = W at hc ⊢
  funext i
  obtain ⟨a, s, l, rfl⟩ : ∃ (a : Fin 4) (s : Fin 8192) (l : Fin 1024), i = ix3 a s l :=
    ⟨i 0, i 1, i 2, funext fun k => by fin_cases k <;> rfl⟩
  pointwise []
  rw [count_sub_zero, if_pos count_pos, wrapped _ hc, mask_true _ fun _ => between _ hc,
    row_take _ _ l (W ix0) (fun y => ?_) hc]
  · exact entry_eq (fun k => X (ix3 a s k)) (G (ix1 l)) (B (ix1 l)) (T (ix2 (pick (W ix0)) l)) l
  · pointwise []
    exact wrapped _ hc

end Cert.ReferenceRows
-- ==== Proof.WordRange.lean ====
module

public import proofs.«01_k».proof.Defs
public import proofs.«01_k».proof.Proof.Gen.Pre_modality_in_table

/-! What the precondition says of the selecting word. -/

@[expose] public section

noncomputable section

namespace Cert.WordRange

open Idealize.ShloMosaic

/-- The precondition holds exactly when the word, read signed, is at least zero and below four; so it names a row. -/
theorem lt_four {F : FTy → Type} [FloatOps F] [Cert.Pre_modality_in_table.Facts]
    (x : FVec F Pre_modality_in_table.S4x8192x1024 .f32) (t : FVec F Pre_modality_in_table.S4x1024 .f32)
    (a b : FVec F Pre_modality_in_table.S1024 .f32) (w : IVec Pre_modality_in_table.S_ 32)
    (h : Pre_modality_in_table.fn (F := F) x t a b w = fun _ => 1#1) : (w (fun a => a.elim0)).toNat < 4 := by
  have e := congrFun h (fun a => a.elim0)
  simp only [Pre_modality_in_table.fn, andi, cmpi, constantI, IntOp.cmpi, IntOp.andi] at e
  generalize w (fun a => a.elim0) = v at e ⊢
  have hb : ((0#32).sle v && v.slt 4#32) = true := by
    revert e
    cases (0#32).sle v <;> cases v.slt 4#32 <;> decide
  rw [Bool.and_eq_true] at hb
  obtain ⟨hge, hlt⟩ := hb
  simp only [BitVec.sle, BitVec.slt, decide_eq_true_eq, BitVec.toInt, BitVec.toNat_ofNat] at hge hlt
  omega

end Cert.WordRange
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_modality_in_table
public import proofs.«01_k».proof.Proof.KernelFrame
public import proofs.«01_k».proof.Proof.KernelIdealExact
public import proofs.«01_k».proof.Proof.ReferenceRows
public import proofs.«01_k».proof.Proof.WordRange
public import Idealize.ShloMosaic.Adequacy
public import Idealize.ShloMosaic.Init

@[expose] public section

noncomputable section

namespace Cert.Proof

open Idealize.ShloMosaic Idealize.SL.Sem

attribute [local instance] Cert.Pre_modality_in_table.Gen.facts

/-- The kernel as it stands runs, ends, and leaves its arguments alone. -/
theorem kernel_frame : Cert.quiescent_Kernel := fun m g h =>
  Cert.KernelRun.run_any m g (Cert.KernelRun.word_in_table m (Cert.WordRange.lt_four _ _ _ _ _ (h 0)))

/-- So does the kernel over the extended reals. -/
theorem kernelIdeal_frame : Cert.quiescent_KernelIdeal := fun m g h =>
  Cert.KernelIdealRun.run_any m g (Cert.KernelIdealRun.word_in_table m (Cert.WordRange.lt_four _ _ _ _ _ (h 0)))

/-- The reference runs, ends, and leaves its arguments alone, whatever they hold. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- So it does where the word is in range. -/
theorem reference_frame_in_table : Cert.quiescent_ReferenceIdeal_pre_modality_in_table := fun m g _ =>
  (θ_run Cert.ReferenceIdeal.defs _ _).mono (fun r h => ⟨fun c => (h c).2, sem_eq_zero_of_no_sems (by decide) r.2⟩)
    (Cert.ReferenceIdeal.Value.run (F := Ideal) m g)

/-- A word read at the one index of a scalar, however that index is written. -/
theorem at_one_index {w : (⟨0, ![]⟩ : Shape).Idx → BitVec 32} (h : (w (fun a => a.elim0)).toNat < 4) : (w ix0).toNat < 4 := by
  rw [show (ix0 : (⟨0, ![]⟩ : Shape).Idx) = fun a => a.elim0 from funext fun a => a.elim0]; exact h

/-- From equal arguments with the word in range, the kernel and the reference end with the same result. -/
theorem same_result : Cert.algebraic_KernelIdeal_ReferenceIdeal := fun m g m' g' h hm => by
  have hw : ∀ c : Dev Cert.KernelIdeal.nD,
      (m ((c.tc : Thread Cert.KernelIdeal.nD Cert.KernelIdeal.τ).loc Cert.KernelIdeal.main_arg4) ix0).toNat < 4 :=
    fun c => at_one_index (Cert.WordRange.lt_four _ _ _ _ _ (h c))
  have hk := Cert.KernelIdealRun.word_in_table m (Cert.WordRange.lt_four _ _ _ _ _ (h 0))
  refine ⟨_, Cert.KernelIdealRun.run_exact m g hk hw, ?_⟩
  have hw' : ∀ c : Dev Cert.ReferenceIdeal.nD,
      (m' ((c.tc : Thread Cert.ReferenceIdeal.nD Cert.ReferenceIdeal.τ).loc Cert.ReferenceIdeal.main_arg4) ix0).toNat < 4 :=
    fun c => by rw [(hm c).2.2.2.2]; exact hw c
  refine (θ_run Cert.ReferenceIdeal.defs _ _).mono (fun r hr c => ⟨(hr c).1.trans ?_, (hr c).2⟩)
    (Cert.ReferenceRows.run_rows m' g' hw')
  obtain ⟨e0, e1, e2, e3, e4⟩ := hm c
  rw [e0, e1, e2, e3, e4]

/-- Everything the certificate claims. -/
theorem claim : Cert.Claim := ⟨Cert.Kernel.Gen.facts, Cert.KernelIdeal.Gen.facts, Cert.ReferenceIdeal.Gen.facts, Cert.Pre_modality_in_table.Gen.facts,
  kernel_frame, kernelIdeal_frame, reference_frame, reference_frame_in_table, trivial, same_result⟩

end Cert.Proof

end
